-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2 : Shape := ⟨2, ![4, 2]⟩
abbrev S4x6 : Shape := ⟨2, ![4, 6]⟩
abbrev S4 : Shape := ⟨1, ![4]⟩
abbrev S8 : Shape := ⟨1, ![8]⟩
abbrev S24 : Shape := ⟨1, ![24]⟩
abbrev S36 : Shape := ⟨1, ![36]⟩
abbrev S_ : Shape := ⟨0, ![]⟩
abbrev S1 : Shape := ⟨1, ![1]⟩

abbrev nBuf : Table → Nat
  | .hbm => 7
  | .local .scScalar .smem => 2
  | _ => 0

abbrev bufTy : (tb : Table) → Fin (nBuf tb) → BufTy
  | .hbm, ⟨0, _⟩ => ⟨S4x2, .f32⟩
  | .hbm, ⟨1, _⟩ => ⟨S4x6, .f32⟩
  | .hbm, ⟨2, _⟩ => ⟨S4, .f32⟩
  | .hbm, ⟨3, _⟩ => ⟨S8, .f32⟩
  | .hbm, ⟨4, _⟩ => ⟨S24, .f32⟩
  | .hbm, ⟨5, _⟩ => ⟨S36, .f32⟩
  | .hbm, ⟨6, _⟩ => ⟨S4, .f32⟩
  | .local .scScalar .smem, ⟨0, _⟩ => ⟨S36, .f32⟩
  | .local .scScalar .smem, ⟨1, _⟩ => ⟨S4, .f32⟩
  | _, _ => ⟨S4x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v2_scs : Ref sig .scScalar := ⟨.hbm, 5, rfl⟩
abbrev main_v3_scs : Ref sig .scScalar := ⟨.hbm, 6, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S4x2 : Shape := ⟨2, ![4, 2]⟩
abbrev S4x6 : Shape := ⟨2, ![4, 6]⟩
abbrev S4 : Shape := ⟨1, ![4]⟩
abbrev S4x1 : Shape := ⟨2, ![4, 1]⟩
abbrev S_ : Shape := ⟨0, ![]⟩
abbrev S1 : Shape := ⟨1, ![1]⟩
abbrev S1x1 : Shape := ⟨2, ![1, 1]⟩
abbrev S3x2 : Shape := ⟨2, ![3, 2]⟩
abbrev S6 : Shape := ⟨1, ![6]⟩
abbrev S6x4 : Shape := ⟨2, ![6, 4]⟩

abbrev nBuf : Space → Nat
  | .hbm => 40
  | .vmem => 0
  | .smem => 0
  | _ => 0

abbrev bufTy : (tb : Table) → Fin (tcTables nBuf tb) → BufTy
  | .hbm, ⟨0, _⟩ => ⟨S4x2, .f32⟩
  | .hbm, ⟨1, _⟩ => ⟨S4x6, .f32⟩
  | .hbm, ⟨2, _⟩ => ⟨S4, .f32⟩
  | .hbm, ⟨3, _⟩ => ⟨S4, .i32⟩
  | .hbm, ⟨4, _⟩ => ⟨S4, .i32⟩
  | .hbm, ⟨5, _⟩ => ⟨S4, .f32⟩
  | .hbm, ⟨6, _⟩ => ⟨S4x1, .f32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S1, .i32⟩
  | .hbm, ⟨16, _⟩ => ⟨S_, .i32⟩
  | .hbm, ⟨17, _⟩ => ⟨S4x1, .i32⟩
  | .hbm, ⟨18, _⟩ => ⟨S4x1, .i1⟩
  | .hbm, ⟨19, _⟩ => ⟨S1x1, .i32⟩
  | .hbm, ⟨20, _⟩ => ⟨S4x1, .i32⟩
  | .hbm, ⟨21, _⟩ => ⟨S4x1, .i1⟩
  | .hbm, ⟨22, _⟩ => ⟨S4x1, .i1⟩
  | .hbm, ⟨23, _⟩ => ⟨S_, .i1⟩
  | .hbm, ⟨24, _⟩ => ⟨S4, .i1⟩
  | .hbm, ⟨25, _⟩ => ⟨S4x2, .f32⟩
  | .hbm, ⟨26, _⟩ => ⟨S4x2, .i1⟩
  | .hbm, ⟨27, _⟩ => ⟨S_, .f32⟩
  | .hbm, ⟨28, _⟩ => ⟨S4x2, .f32⟩
  | .hbm, ⟨29, _⟩ => ⟨S4x2, .f32⟩
  | .hbm, ⟨30, _⟩ => ⟨S4x2, .f32⟩
  | .hbm, ⟨31, _⟩ => ⟨S4x2, .f32⟩
  | .hbm, ⟨32, _⟩ => ⟨S_, .f32⟩
  | .hbm, ⟨33, _⟩ => ⟨S3x2, .f32⟩
  | .hbm, ⟨34, _⟩ => ⟨S4x1, .i32⟩
  | .hbm, ⟨35, _⟩ => ⟨S3x2, .f32⟩
  | .hbm, ⟨36, _⟩ => ⟨S6, .f32⟩
  | .hbm, ⟨37, _⟩ => ⟨S6x4, .f32⟩
  | .hbm, ⟨38, _⟩ => ⟨S4, .f32⟩
  | .hbm, ⟨39, _⟩ => ⟨S4, .f32⟩
  | _, _ => ⟨S4x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩

abbrev nD : Nat := 1
abbrev τ : Topo := Topo.v7x

variable {F : FTy → Type} [FloatOps F]
-- ==== Proof.KernelValue.lean ====
/-
  What the kernel computes, as a function of its packed operand: the eight words of `x`, then the 24 of `W`, then the
  four of `b`. Each result is the bias with six products added to it in order.
-/
module

public import proofs.«01_k».proof.Proof.Gen.KernelIdeal
public import Idealize.ShloMosaic.Lib.Pointwise.Index

@[expose] public section

noncomputable section

namespace Cert.Proof.Spmm

open Cert.KernelIdeal
open Idealize.ShloMosaic

variable {F : FTy → Type} [FloatOps F]

/-- The type of the packed operand's contents (`x`, then `W`, then `b`), and of the result's. -/
abbrev Packed (F : FTy → Type) : Type := (⟨S36, .f32⟩ : BufTy).Contents (Elt F)
abbrev Result (F : FTy → Type) : Type := (⟨S4, .f32⟩ : BufTy).Contents (Elt F)

/-- The packed operand: `x` and `W` row by row, and `b`, one after the other. -/
def packedOf (x : (⟨S4x2, .f32⟩ : BufTy).Contents (Elt F)) (W : (⟨S4x6, .f32⟩ : BufTy).Contents (Elt F)) (b : Result F) : Packed F :=
  concatenate S36 0 [⟨S8, shapeCast S8 x Gen.shapeCasts_S4x2_S8⟩, ⟨S24, shapeCast S24 W Gen.shapeCasts_S4x6_S24⟩, ⟨S4, b⟩]
    Gen.concatenates_S8_S24_S4_S36_d0

/-- Word `n` of the packed operand. -/
abbrev word (p : Packed F) (n : ℕ) (h : n < 36 := by omega) : F .f32 := p (ix1 (⟨n, h⟩ : Fin 36))

/-- Entry `k` of the flattened sparse product, as the kernel writes it out: `x` is words 0 to 7, row by row. -/
def flatAt (p : Packed F) : Fin 6 → F .f32
  | 0 => Scalar.addf (word p 4) (Scalar.mulf (Scalar.ofBits .f32 0x40000000#32) (word p 6))
  | 1 => Scalar.addf (word p 5) (Scalar.mulf (Scalar.ofBits .f32 0x40000000#32) (word p 7))
  | 2 => word p 0
  | 3 => word p 1
  | 4 => Scalar.mulf (Scalar.ofBits .f32 0x40400000#32) (word p 6)
  | 5 => Scalar.mulf (Scalar.ofBits .f32 0x40400000#32) (word p 7)

/-- Product `k` of row `j`: the flattened entry against the weight, which is word `8 + 6 j + k`. -/
def term (p : Packed F) (j : Fin 4) (k : Fin 6) : F .f32 := Scalar.mulf (flatAt p k) (word p (8 + 6 * j.val + k.val))

/-- Result `j`: the bias, then the six products added one after the other. -/
def dotAt (p : Packed F) (j : Fin 4) : F .f32 :=
  Scalar.addf (Scalar.addf (Scalar.addf (Scalar.addf (Scalar.addf (Scalar.addf (word p (32 + j.val)) (term p j 0)) (term p j 1)) (term p j 2))
    (term p j 3)) (term p j 4)) (term p j 5)

/-- The result array. -/
def outOf (p : Packed F) : Result F := fun i => dotAt p (i 0)

end Cert.Proof.Spmm

end
-- ==== Proof.Body.lean ====
/-
  The kernel on the sequencer, run once at any float values: the packed operand is copied into scalar memory, the four
  results are computed word by word and stored, and the four words are copied out.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.KernelValue

@[expose] public section

noncomputable section

namespace Cert.Proof.Spmm

open Cert.KernelIdeal Cert.KernelIdeal.Gen

open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program in the launch theorem's terms -/

/-- The program's labels, its SparseCore launch, its functions, and its loops' variants (it has no loop). -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch theorem's handshake rounds, and beside them the counters of the kernel's own copies. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## The buffers, as the body names them -/

local notation "pW" => (Memref.whole Cert.KernelIdeal.main_v2_scs : Memref Cert.KernelIdeal.sig Kind.scScalar Space.hbm Cert.KernelIdeal.S36 EltTy.f32)
local notation "oW" => (Memref.whole Cert.KernelIdeal.main_v3_scs : Memref Cert.KernelIdeal.sig Kind.scScalar Space.hbm Cert.KernelIdeal.S4 EltTy.f32)
local notation "pS" => (Memref.whole Cert.KernelIdeal.cc0_scratch0 : Memref Cert.KernelIdeal.sig Kind.scScalar Space.smem Cert.KernelIdeal.S36 EltTy.f32)
local notation "oS" => (Memref.whole Cert.KernelIdeal.cc0_scratch1 : Memref Cert.KernelIdeal.sig Kind.scScalar Space.smem Cert.KernelIdeal.S4 EltTy.f32)

/-- The packed operand's array and the result's on device `d`. -/
abbrev pLoc (d : Dev nD) : Loc nD τ sig := (SparseCore.T d).loc main_v2
abbrev oLoc (d : Dev nD) : Loc nD τ sig := (SparseCore.T d).loc main_v3

/-- The grid's point with coordinate `c`. -/
def coordsS (c : Fin (grid0.bound 0)) : grid0.Coords := fun | 0 => c | ⟨_ + 1, h⟩ => absurd h (Nat.not_lt.2 (Nat.le_add_left _ _))

variable (d : Dev nD)

/-- The sequencer that runs the kernel. -/
abbrev seq (h : 0 < grid0.bound 0) : Thread nD τ := S d ((⟨0, h⟩ : Fin (grid0.bound 0)).castLE hcore0)

/-- A word read from scalar memory after the copy filled it is the operand's word at that place. -/
theorem read_word (f w : Packed F) (n : ℕ) (inb : ∀ a, (![n] : Fin 1 → ℕ) a + (![1] : Fin 1 → ℕ) a ≤ S36.size a) (h1 : 0 < S1.numel) :
    View.readAt (Elt F) (View.whole cc0_scratch0) (Rect.unit (s := S36) ![n] ![1] inb).toLoadRect
        (View.write (Elt F) (View.whole cc0_scratch0) f w Finset.univ) (Shape.Idx.first h1)
      = word w n (Nat.lt_of_succ_le (inb 0)) := by
  rw [View.write_whole_univ]
  exact congrArg w (funext fun a => match a with | ⟨0, _⟩ => rfl)

/-- What the four stores leave: when each stored word is `dotAt p` of its place, the array read back is `outOf p`,
    whatever the buffer held before. -/
theorem read_stores (f : Result F) (p : Packed F) (w : Fin 4 → F .f32) (hw : ∀ j, w j = dotAt p j) :
    View.read (Elt F) (oS).view ((oS).view.writes (Elt F) f
      [⟨Rect.unit (s := S4) ![3] S1.size inb_S4_S1_3, fun _ => w 3⟩, ⟨Rect.unit (s := S4) ![2] S1.size inb_S4_S1_2, fun _ => w 2⟩,
        ⟨Rect.unit (s := S4) ![1] S1.size inb_S4_S1_1, fun _ => w 1⟩, ⟨Rect.unit (s := S4) ![0] S1.size inb_S4_S1_0, fun _ => w 0⟩]) = outOf p := by
  -- the piece for word `j` holds `outOf p` at the one place it writes
  have piece (j : Fin 4) (inb : ∀ a, (![j.val] : Fin 1 → ℕ) a + S1.size a ≤ S4.size a) (x : (Rect.unit (s := S4) ![j.val] S1.size inb).shape.Idx) :
      w j = outOf p ((Rect.unit (s := S4) ![j.val] S1.size inb).emb x) := by
    have hx : (x 0).val < 1 := (x 0).isLt
    refine (hw j).trans (congrArg (dotAt p) (Fin.ext ?_))
    show j.val = j.val + 1 * (x 0).val
    omega
  -- and the place `y` lies under the piece for its coordinate
  have cover (y : S4.Idx) (j : ℕ) (inb : ∀ a, (![j] : Fin 1 → ℕ) a + S1.size a ≤ S4.size a) (h : (y 0).val = j) :
      y ∈ (Rect.unit (s := S4) ![j] S1.size inb).set :=
    Rect.mem_set_unit.mpr fun a => match a with | ⟨0, _⟩ => ⟨h.ge, by show (y 0).val < j + 1; omega⟩
  funext y
  refine View.read_writes_apply_of_pieces _ _ (outOf p) _ ?_ y ?_
  · simp only [List.forall_mem_cons, List.not_mem_nil, false_imp_iff, implies_true]
    exact ⟨piece 3 inb_S4_S1_3, piece 2 inb_S4_S1_2, piece 1 inb_S4_S1_1, piece 0 inb_S4_S1_0, trivial⟩
  · have hy : (y 0).val < 4 := (y 0).isLt
    obtain h | h | h | h : (y 0).val = 3 ∨ (y 0).val = 2 ∨ (y 0).val = 1 ∨ (y 0).val = 0 := by omega
    · exact ⟨_, .head _, cover y 3 inb_S4_S1_3 h⟩
    · exact ⟨_, .tail _ (.head _), cover y 2 inb_S4_S1_2 h⟩
    · exact ⟨_, .tail _ (.tail _ (.head _)), cover y 1 inb_S4_S1_1 h⟩
    · exact ⟨_, .tail _ (.tail _ (.tail _ (.head _))), cover y 0 inb_S4_S1_0 h⟩

/-- The body from its four buffers and two semaphores: the operand comes back as it was, the result holds `outOf` of it. -/
theorem body_run (h : 0 < grid0.bound 0) (O : CellTallies nD τ sig (HIx 1)) (W : Waits sig (HIx 1))
    (p : Buf (Elt F) (pLoc d)) (fo : Buf (Elt F) (oLoc d)) (fp : Buf (Elt F) ((pS).view.loc (seq d h))) (fs : Buf (Elt F) ((oS).view.loc (seq d h))) :
    iprop(Transfers.MayWaits (seq d h) (none : HIx 1) O
        ∗ ((pW).view.loc (seq d h) ↦{fullShare} p) ∗ ((oW).view.loc (seq d h) ↦{fullShare} fo)
        ∗ ((pS).view.loc (seq d h) ↦{fullShare} fp) ∗ ((oS).view.loc (seq d h) ↦{fullShare} fs)
        ∗ semVal (seq d h, SemLoc.dma cc0_scoped0.sem) 0 ∗ semVal (seq d h, SemLoc.dma cc0_scoped1.sem) 0
        ∗ owes (seq d h) O W)
      ⊢ (wp frame (wpE (defs₀ (F := F)) 𝒱₀ (seq d h) none) Set.univ
          (cc0__body (coordsS ⟨0, h⟩) pW (Memref.isWhole_whole _) oW (Memref.isWhole_whole _) pS (Memref.isWhole_whole _) oS (Memref.isWhole_whole _)
            cc0_scratch2 cc0_scoped0 cc0_scoped1)
          fun _ => iprop(((pW).view.loc (seq d h) ↦{fullShare} p) ∗ ((oW).view.loc (seq d h) ↦{fullShare} outOf p)
            ∗ (∃ f, (pS).view.loc (seq d h) ↦{fullShare} f) ∗ (∃ f, (oS).view.loc (seq d h) ↦{fullShare} f)
            ∗ semVal (seq d h, SemLoc.dma cc0_scoped0.sem) 0 ∗ semVal (seq d h, SemLoc.dma cc0_scoped1.sem) 0
            ∗ ∃ W', ⌜∀ q ∈ W', q ∈ W ∨ q.2 = (none : HIx 1)⌝ ∗ owes (seq d h) O W') : sProp 𝕄) := by
  rw [cc0__body_eq_skeleton]; unfold cc0__body_skel
  iintro ⟨#Hmw, Hp, Ho, Hps, Hos, Hs0, Hs1, HO⟩
  sl_exec
  sl_step
  have e : View.write (Elt F) (oW).view fo (body_run.sl.dma44 d h p fp fs) Finset.univ = outOf p := by
    rw [View.write_whole_univ]
    refine read_stores fs p (fun
      | 3 => k0_pay1 (body_run.sl.r_45 d h p fp) (body_run.sl.r_46 d h p fp)
      | 2 => _
      | 1 => _
      | 0 => _) fun j => ?_
    match j with
    | 0 => _
    | 1 => _
    | 2 => _
    | 3 => _
    all_goals
      delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46
      simp only [read_word]
      rfl
  rw [e]
  isplitl [Hp]; · iexact Hp
  isplitl [Ho]; · iexact Ho
  isplitl [Hps]; · iexists _; iexact Hps
  isplitl [Hos]; · iexists _; iexact Hos
  isplitl [Hs0]; · iexact Hs0
  isplitl [Hs1]; · iexact Hs1
  iexists (insert (SemLoc.dma cc0_scoped1.sem, (default : HIx 1)) (insert (SemLoc.dma cc0_scoped0.sem, (default : HIx 1)) W)); isplitr
  · ipureintro
    intro q hq
    rcases Finset.mem_insert.mp hq with hq | hq
    · exact .inr (by rw [hq]; rfl)
    rcases Finset.mem_insert.mp hq with hq | hq
    · exact .inr (by rw [hq]; rfl)
    · exact .inl hq
  · iexact HO

end Cert.Proof.Spmm

end
-- ==== Proof.Launch.lean ====
/-
  The whole kernel program's run at any float values: the TensorCore packs the three arguments into one operand, calls
  the sequencer, and ends with the result at `outOf` of the packed operand, the arguments unchanged and every counter at
  zero.
-/
module

public import proofs.«01_k».proof.Proof.Body

@[expose] public section

noncomputable section

namespace Cert.Proof.Spmm

open Cert.KernelIdeal Cert.KernelIdeal.Gen

open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ
local notation "pW" => (Memref.whole Cert.KernelIdeal.main_v2_scs : Memref Cert.KernelIdeal.sig Kind.scScalar Space.hbm Cert.KernelIdeal.S36 EltTy.f32)
local notation "oW" => (Memref.whole Cert.KernelIdeal.main_v3_scs : Memref Cert.KernelIdeal.sig Kind.scScalar Space.hbm Cert.KernelIdeal.S4 EltTy.f32)
local notation "pS" => (Memref.whole Cert.KernelIdeal.cc0_scratch0 : Memref Cert.KernelIdeal.sig Kind.scScalar Space.smem Cert.KernelIdeal.S36 EltTy.f32)
local notation "oS" => (Memref.whole Cert.KernelIdeal.cc0_scratch1 : Memref Cert.KernelIdeal.sig Kind.scScalar Space.smem Cert.KernelIdeal.S4 EltTy.f32)

/-- No cell of the launch's handshakes is a scoped one, and no SparseCore buffer is a task's shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

variable (m : (ℓ : Loc nD τ sig) → Buf (Elt F) ℓ) (ρ : Dev nD → PrngReg) (d : Dev nD)

/-! ## What the call hands over and takes back -/

/-- The argument arrays on device `d`. -/
abbrev xLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_arg2

/-- The packed operand made from the launch contents, and the result computed from it. -/
def packedAt : Packed F := packedOf (m (xLoc d)) (m (wLoc d)) (m (bLoc d))
def outAt : Result F := outOf (packedAt m d)

/-- The call hands the sequencer the packed operand and the result's buffer, and takes both back with the result written. -/
def P : (K (F := F)).Pay (nD := nD) (Val := Elt F) (Name := ℕ) (U := UU) where
  st := fun _ d _ => iprop((pLoc d ↦{fullShare} packedAt m d) ∗ ∃ f, oLoc d ↦{fullShare} f)
  dn := fun _ d _ => iprop((pLoc d ↦{fullShare} packedAt m d) ∗ oLoc d ↦{fullShare} outAt m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own cells and buffers -/

abbrev inCell (c : Fin τ.nSC) : GSem nD τ sig := (S d c, .dma cc0_scoped0.sem)
abbrev outCell (c : Fin τ.nSC) : GSem nD τ sig := (S d c, .dma cc0_scoped1.sem)

omit [FloatOps F] in
/-- The sequencer's counters at zero are those of its two copies and the rest. -/
theorem ownSems0_S (c : Fin τ.nSC) :
    (ownSems0 (S d c) : sProp 𝕄)
      = iprop(semVal (inCell d c) 0 ∗ semVal (outCell d c) 0 ∗ bigSep (((ownCells (S d c)).erase (inCell d c)).erase (outCell d c)) fun g => semVal g 0) := by
  unfold SparseCore.Cfg.ownSems0
  rw [SparseCore.bigSep_erase' ((mem_ownCells (g := inCell d c)).mpr ⟨rfl, by show (SemLoc.dma cc0_scoped0.sem : SemLoc sig).isScoped .scScalar = true; decide⟩),
    SparseCore.bigSep_erase' (Finset.mem_erase.mpr ⟨fun e => absurd (congrArg Prod.snd e) (by show ¬ ((SemLoc.dma cc0_scoped1.sem : SemLoc sig) = SemLoc.dma cc0_scoped0.sem); decide),
      (mem_ownCells (g := outCell d c)).mpr ⟨rfl, by show (SemLoc.dma cc0_scoped1.sem : SemLoc sig).isScoped .scScalar = true; decide⟩⟩)]

omit [FloatOps F] in
/-- The sequencer's buffers are its two scratch arrays and the rest. -/
theorem ownBufs_S (c : Fin τ.nSC) :
    (ownBufs (S d c) : sProp 𝕄)
      = iprop((∃ f, (pS).view.loc (S d c) ↦{fullShare} f) ∗ (∃ f, (oS).view.loc (S d c) ↦{fullShare} f)
          ∗ bigSep (((ownRefs (τ := τ) (.scScalar c)).erase ((Proc.scScalar c).devRef cc0_scratch0)).erase ((Proc.scScalar c).devRef cc0_scratch1))
              fun b => iprop(∃ f, ((d, b) : Loc nD τ sig) ↦{fullShare} f)) := by
  unfold SparseCore.Cfg.ownBufs
  rw [SparseCore.bigSep_erase' ((mem_ownRefs (p := Proc.scScalar c) (b := (Proc.scScalar c).devRef cc0_scratch0)).mpr rfl),
    SparseCore.bigSep_erase' (Finset.mem_erase.mpr ⟨fun e => absurd (Proc.devRef_injective _ e) (show ¬ (cc0_scratch1 : Ref sig .scScalar) = cc0_scratch0 by decide),
      (mem_ownRefs (p := Proc.scScalar c) (b := (Proc.scScalar c).devRef cc0_scratch1)).mpr rfl⟩)]

omit [FloatOps F] in
/-- The two arrays as the sequencer addresses them are the TensorCore's. -/
theorem pts_p (c : Fin τ.nSC) (f : Buf (Elt F) (pLoc d)) : ((pW).view.loc (S d c) ↦{fullShare} f : sProp 𝕄) = pLoc d ↦{fullShare} f := by
  simp only [Memref.view_whole, View.set_whole]
omit [FloatOps F] in
theorem pts_o (c : Fin τ.nSC) (f : Buf (Elt F) (oLoc d)) : ((oW).view.loc (S d c) ↦{fullShare} f : sProp 𝕄) = oLoc d ↦{fullShare} f := by
  simp only [Memref.view_whole, View.set_whole]

/-! ## The sequencer's obligation -/

/-- The body inside the launch: from what the call hands over, the sequencer's scoped buffers and its counters at zero,
    to what the call takes back, with the buffers and the counters as they must be left. -/
theorem body_obl (h : 0 < grid0.bound 0) (O : CellTallies nD τ sig (HIx 1)) (W : Waits sig (HIx 1)) (hO : ∀ g, O g none = 0) :
    iprop(levAts (K (F := F)).L (K (F := F)).lev ∗ emp ∗ ((pLoc d ↦{fullShare} packedAt m d) ∗ ∃ f, oLoc d ↦{fullShare} f)
        ∗ scopedBufs (seq d h) ∗ scopedSems0 (seq d h) ∗ owes (seq d h) O W)
      ⊢ (wp frame (wpE (defs₀ (F := F)) 𝒱₀ (seq d h) none) Set.univ
          (cc0__body (coordsS ⟨0, h⟩) pW (Memref.isWhole_whole _) oW (Memref.isWhole_whole _) pS (Memref.isWhole_whole _) oS (Memref.isWhole_whole _)
            cc0_scratch2 cc0_scoped0 cc0_scoped1)
          fun _ => iprop(((pLoc d ↦{fullShare} packedAt m d) ∗ oLoc d ↦{fullShare} outAt m d) ∗ scopedBufs (seq d h) ∗ scopedSems0 (seq d h)
            ∗ ∃ W', ⌜∀ p ∈ W', p ∈ W ∨ p.2 = none ∨ p.2 = some (0 : Fin 1)⌝ ∗ owes (seq d h) O W') : sProp 𝕄) := by
  rw [(K (F := F)).scopedBufs_S facts d _, SparseCore.Cfg.scopedSems0_S (Val := Elt F) d _, ownSems0_S, ownBufs_S]
  iintro ⟨#Hlv, -, ⟨Hp, %fo, Ho⟩, ⟨⟨⟨%fp, Hps⟩, ⟨%fs, Hos⟩, Hbufs⟩, Htiles⟩, ⟨⟨Hs0, Hs1, Hsems⟩, HtileSems⟩, HO⟩
  ihave Hmw := ((K (F := F)).mayWaits_none (thr := seq d h) hO) $$ Hlv
  ihave Hp' := (Entails.of_eq (pts_p (F := F) d _ _).symm) $$ Hp
  ihave Ho' := (Entails.of_eq (pts_o (F := F) d _ _).symm) $$ Ho
  iapply (wp_wand_r Idealize.ShloMosaic.frame (wpE (defs₀ (F := F)) 𝒱₀ (seq d h) none) Set.univ)
  isplitl [Hmw Hp' Ho' Hps Hos Hs0 Hs1 HO]
  · iapply (body_run d h O W _ _ _ _)
    isplitl [Hmw]; · iexact Hmw
    isplitl [Hp']; · iexact Hp'
    isplitl [Ho']; · iexact Ho'
    isplitl [Hps]; · iexact Hps
    isplitl [Hos]; · iexact Hos
    isplitl [Hs0]; · iexact Hs0
    isplitl [Hs1]; · iexact Hs1
    iexact HO
  iintro %_ ⟨Hp, Ho, Hps, Hos, Hs0, Hs1, %W', %hW', HO⟩
  isplitl [Hp Ho]
  · isplitl [Hp]; · iapply (Entails.of_eq (pts_p (F := F) d _ _)); iexact Hp
    iapply (Entails.of_eq (pts_o (F := F) d _ _)); iexact Ho
  isplitl [Hps Hos Hbufs Htiles]
  · isplitl [Hps Hos Hbufs]
    · isplitl [Hps]; · iexact Hps
      isplitl [Hos]; · iexact Hos
      iexact Hbufs
    · iexact Htiles
  isplitl [Hs0 Hs1 Hsems HtileSems]
  · isplitl [Hs0 Hs1 Hsems]
    · isplitl [Hs0]; · iexact Hs0
      isplitl [Hs1]; · iexact Hs1
      iexact Hsems
    · iexact HtileSems
  iexists W'; isplitr
  · ipureintro; exact fun p hp => (hW' p hp).imp_right Or.inl
  · iexact HO

/-- The sequencer's function, at its grid point, is the kernel's body on the call's arrays and scratch. -/
theorem defs₀_scalar (c : Fin τ.nSC) :
    defs₀ (F := F) (.scScalar c) 0 ()
      = SparseCore.onCore hcore0 (fun c => cc0__body (coordsS c) pW (Memref.isWhole_whole _) oW (Memref.isWhole_whole _) pS (Memref.isWhole_whole _) oS (Memref.isWhole_whole _)
          cc0_scratch2 cc0_scoped0 cc0_scoped1) ⟨⟩ c := rfl

/-- The launch theorem's obligation for the one call: the grid's one sequencer runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body_obl m d h O W hO

/-! ## The launch element: the handshakes' rounds, and nothing of the kernel's own -/

/-- The handshakes' rounds at their start, beside no counter of the kernel's own. -/
def u₀ : UU := (initOf (K (F := F)).hsCells (K (F := F)).hsToks, 1)

/-- The launch element gives the handshakes their start; the devices and the threads are given nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none (I : Type) (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [none]; iempintro
  rw [show (bigSep Finset.univ fun thr : Thread nD τ => bigSep Finset.univ fun q : Fin 1 => (P m).x q thr) = (iprop(emp) : sProp 𝕄) from
    (bigSep_congr fun _ _ => none _ _).trans (none _ _)]
  iempintro

/-! ## The TensorCore's program -/

/-- A TensorCore array as the device's. -/
abbrev dev (b : Ref sig .tc) : DevRef τ sig := Proc.devRef .tc b

/-- The three host operations: `x` and `W` flattened, then the three put together. -/
abbrev opX : HloOp τ sig (Elt F) := StableHlo.reshape main_arg0 main_v0 (rfl : (.f32 : EltTy) = .f32) shapeCasts_S4x2_S8
abbrev opW : HloOp τ sig (Elt F) := StableHlo.reshape main_arg1 main_v1 (rfl : (.f32 : EltTy) = .f32) shapeCasts_S4x6_S24
abbrev opPack : HloOp τ sig (Elt F) :=
  StableHlo.nary ![main_v0, main_v1, main_arg2] main_v2 (fun u => (concatenate S36 0 [⟨S8, (u 0 : (⟨S8, .f32⟩ : BufTy).Contents (Elt F))⟩,
    ⟨S24, (u 1 : (⟨S24, .f32⟩ : BufTy).Contents (Elt F))⟩, ⟨S4, (u 2 : (⟨S4, .f32⟩ : BufTy).Contents (Elt F))⟩] concatenates_S8_S24_S4_S36_d0 : (⟨S36, .f32⟩ : BufTy).Contents (Elt F)))

/-- The TensorCore's arrays. -/
abbrev arrays : Finset (DevRef τ sig) := {dev main_arg0, dev main_arg1, dev main_arg2, dev main_v0, dev main_v1, dev main_v2, dev main_v3}

/-- The arrays' contents at the launch, and once the operand is packed. -/
def atLaunch : Valuation τ sig (Elt F) := fun b => m (d, b)
def atCall : Valuation τ sig (Elt F) := (opPack (F := F)).result ((opW (F := F)).result ((opX (F := F)).result (atLaunch m d)))

/-- An array none of the three operations writes is at the call what it was at the launch. -/
theorem atCall_of_ne (r : Ref sig .tc) (h0 : r ≠ main_v0) (h1 : r ≠ main_v1) (h2 : r ≠ main_v2) : atCall m d (dev r) = m ((SparseCore.T d).loc r) :=
  (StableHlo.result_of_writes_ne _ _ main_v2 r rfl h2).trans
    ((StableHlo.result_of_writes_ne _ _ main_v1 r rfl h1).trans (StableHlo.result_of_writes_ne _ _ main_v0 r rfl h0))

/-- The operand at the call is the packed launch contents. -/
theorem atCall_packed : atCall m d (dev main_v2) = packedAt m d := by
  refine (StableHlo.nary_result _ _ _ _ _ _).trans ?_
  have e0 : (opW (F := F)).result ((opX (F := F)).result (atLaunch m d)) (dev main_v0) = shapeCast S8 (m (xLoc d)) shapeCasts_S4x2_S8 :=
    (StableHlo.result_of_writes_ne _ _ main_v1 main_v0 rfl (by decide)).trans (StableHlo.reshape_result _ _ _ _ _ _ _)
  have e1 : (opW (F := F)).result ((opX (F := F)).result (atLaunch m d)) (dev main_v1) = shapeCast S24 (m (wLoc d)) shapeCasts_S4x6_S24 :=
    (StableHlo.reshape_result _ _ _ _ _ _ _).trans
      (congrArg (fun u : (⟨S4x6, .f32⟩ : BufTy).Contents (Elt F) => shapeCast S24 u shapeCasts_S4x6_S24) (StableHlo.result_of_writes_ne _ _ main_v0 main_arg1 rfl (by decide)))
  have e2 : (opW (F := F)).result ((opX (F := F)).result (atLaunch m d)) (dev main_arg2) = m (bLoc d) :=
    (StableHlo.result_of_writes_ne _ _ main_v1 main_arg2 rfl (by decide)).trans (StableHlo.result_of_writes_ne _ _ main_v0 main_arg2 rfl (by decide))
  unfold packedAt packedOf
  refine StableHlo.concatenate_congr S36 0 ?_ _ _
  exact congrArg₂ List.cons (congrArg (Sigma.mk S8) e0) (congrArg₂ List.cons (congrArg (Sigma.mk S24) e1) (congrArg₂ List.cons (congrArg (Sigma.mk S4) e2) rfl))

omit [FloatOps F] in
/-- Holding the TensorCore's arrays at given contents is holding each of the seven. -/
theorem held_arrays (W : Valuation τ sig (Elt F)) :
    (held (SparseCore.T d) arrays W : sProp 𝕄)
      = iprop((xLoc d ↦{fullShare} W (dev main_arg0)) ∗ (wLoc d ↦{fullShare} W (dev main_arg1)) ∗ (bLoc d ↦{fullShare} W (dev main_arg2))
          ∗ ((SparseCore.T d).loc main_v0 ↦{fullShare} W (dev main_v0)) ∗ ((SparseCore.T d).loc main_v1 ↦{fullShare} W (dev main_v1))
          ∗ (pLoc d ↦{fullShare} W (dev main_v2)) ∗ oLoc d ↦{fullShare} W (dev main_v3)) := by
  unfold held arrays
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
/-- The launch gives the TensorCore its arrays at the launch contents. -/
theorem unscoped_held : (unscopedBufs d (fun b => m ((SparseCore.T d).loc b)) : sProp 𝕄) = held (SparseCore.T d) arrays (atLaunch m d) := by
  rw [held_arrays]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- At the call the arguments are the launch's and the operand is packed. -/
theorem call_held : (held (SparseCore.T d) arrays ((opPack (F := F)).result ((opW (F := F)).result ((opX (F := F)).result (atLaunch m d)))) : sProp 𝕄)
    ⊢ iprop((xLoc d ↦{fullShare} m (xLoc d)) ∗ (wLoc d ↦{fullShare} m (wLoc d)) ∗ (bLoc d ↦{fullShare} m (bLoc d))
        ∗ (pLoc d ↦{fullShare} packedAt m d) ∗ ∃ f, oLoc d ↦{fullShare} f) := by
  change held (SparseCore.T d) arrays (atCall m d) ⊢ _
  rw [held_arrays, atCall_packed, atCall_of_ne m d main_arg0 (by decide) (by decide) (by decide), atCall_of_ne m d main_arg1 (by decide) (by decide) (by decide),
    atCall_of_ne m d main_arg2 (by decide) (by decide) (by decide)]
  iintro ⟨Hx, Hw, Hb, -, -, Hp, Ho⟩
  isplitl [Hx]; · iexact Hx
  isplitl [Hw]; · iexact Hw
  isplitl [Hb]; · iexact Hb
  isplitl [Hp]; · iexact Hp
  iexists _; iexact Ho

/-- What the program leaves the claims: the arguments at their launch contents, the result at `outAt`. -/
abbrev FIN (d : Dev nD) : sProp 𝕄 :=
  iprop((xLoc d ↦{fullShare} m (xLoc d)) ∗ (wLoc d ↦{fullShare} m (wLoc d)) ∗ (bLoc d ↦{fullShare} m (bLoc d)) ∗ oLoc d ↦{fullShare} outAt m d)

/-- The call's one grid point takes and gives back the one payload. -/
theorem st_eq : (bigSep Finset.univ fun c : Fin ((K (F := F)).nCore 0) => (P m).st 0 d c) = iprop((pLoc d ↦{fullShare} packedAt m d) ∗ ∃ f, oLoc d ↦{fullShare} f) :=
  bigSep_univ_of_subsingleton (0 : Fin 1)
theorem dn_eq : (bigSep Finset.univ fun c : Fin ((K (F := F)).nCore 0) => (P m).dn 0 d c) = iprop((pLoc d ↦{fullShare} packedAt m d) ∗ oLoc d ↦{fullShare} outAt m d) :=
  bigSep_univ_of_subsingleton (0 : Fin 1)

/-- The TensorCore's program: the three host operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := arrays) (show ({dev main_arg0, dev main_v0} : Finset (DevRef τ sig)) ⊆ arrays by decide) (V := atLaunch m d)) $$ [Hb Hheld]
  · isplitl [Hb] <;> iassumption
  iintro ⟨Hb, Hheld⟩
  rw [wp_ret]; imodintro
  iapply (wp_hlo_within 𝒱 (SparseCore.T d) none Set.univ (op := opW) (S := arrays) (show ({dev main_arg1, dev main_v1} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opPack) (S := arrays)
    (show (insert (dev main_v2) (Finset.univ.image fun k => dev ((![main_v0, main_v1, main_arg2] : Fin 3 → Ref sig .tc) k)) : Finset (DevRef τ sig)) ⊆ arrays by decide)) $$ [Hb Hheld]
  · isplitl [Hb] <;> iassumption
  iintro ⟨Hb, Hheld⟩
  rw [wp_ret]; imodintro
  ihave Hh := (call_held m d) $$ Hheld
  icases Hh with ⟨Hx, Hw, Hbias, Hp, Ho⟩
  iapply ((K (F := F)).wp_run (D (F := F)) 𝒱 (EH := EH) (P := P m) κ d 0) $$ [Hst Hx Hw Hbias Hp Ho Hb Hts]
  isplitr; · iexact Hctx
  isplitl [Hst]; · iexact Hst
  isplitl [Hp Ho]
  · rw [st_eq]
    isplitl [Hp]; · iexact Hp
    iexact Ho
  iintro ⟨Hst, Hdn⟩
  ihave Hdn' := (Entails.of_eq (dn_eq m d)) $$ Hdn
  icases Hdn' with ⟨-, Ho⟩
  imodintro
  isplitl [Hst]; · iexact Hst
  isplitl [Hx Hw Hbias Ho]
  · isplitl [Hx]; · iexact Hx
    isplitl [Hw]; · iexact Hw
    isplitl [Hbias]; · iexact Hbias
    iexact Ho
  isplitl [Hb] <;> iassumption

/-! ## The run -/

/-- What a final state reads on device `d`. -/
def fq (d : Dev nD) (s' : Phys nD τ sig (Elt F)) : Prop :=
  s'.mem.mem (oLoc d) = outAt m d ∧ s'.mem.mem (xLoc d) = m (xLoc d) ∧ s'.mem.mem (wLoc d) = m (wLoc d) ∧ s'.mem.mem (bLoc d) = m (bLoc d)

omit [FloatOps F] in
/-- A whole array held beside a state is what that state's memory reads, and holding both goes on. -/
theorem read_held (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  refine sep_comm.1.trans ((persistent_entails_right SI_pointsTo_agree).trans ?_)
  iintro ⟨%h, HSI, -⟩
  isplitr
  · ipureintro; exact funext fun i => h i (Finset.mem_univ i)
  · iexact HSI

/-- What the program leaves fixes what a final state reads. -/
theorem hfin (d : Dev nD) (s' : Phys nD τ sig (Elt F)) : iprop(FIN m d ∗ SI s') ⊢ (⌜fq m d s'⌝ : sProp 𝕄) := by
  iintro ⟨⟨Hx, Hw, Hb, Ho⟩, HSI⟩
  ihave H := (read_held s' _ _) $$ [Hx HSI]
  · isplitl [Hx] <;> iassumption
  icases H with ⟨%hx, HSI⟩
  ihave H := (read_held s' _ _) $$ [Hw HSI]
  · isplitl [Hw] <;> iassumption
  icases H with ⟨%hw, HSI⟩
  ihave H := (read_held s' _ _) $$ [Hb HSI]
  · isplitl [Hb] <;> iassumption
  icases H with ⟨%hb, HSI⟩
  ihave H := (read_held s' _ _) $$ [Ho HSI]
  · isplitl [Ho] <;> iassumption
  icases H with ⟨%ho, -⟩
  ipureintro
  exact ⟨ho, hx, hw, hb⟩

/-- The program ends with the result at `outAt` on every device, the arguments unchanged and every counter at zero. -/
def QC : PUnit × MemSt nD τ sig (Elt F) → Prop := fun r =>
  (∀ c : Dev nD, r.2.mem (oLoc c) = outAt m c ∧ r.2.mem (xLoc c) = m (xLoc c) ∧ r.2.mem (wLoc c) = m (wLoc c) ∧ r.2.mem (bLoc c) = m (bLoc c))
    ∧ r.2.sem = fun _ => 0

/-- Every weakly fair execution of the whole program, from any memory with every counter at zero, ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Spmm

end
-- ==== Proof.ReferenceValue.lean ====
/-
  What the reference computes, index by index: the sparse product's entry at row `r` is zero plus the sum, over the
  matrix's entries in that row, of the entry's value times the operand's row at the entry's column; each result is the
  sum of six products of the flattened sparse product with a row of the weights, plus the bias.
-/
module

public import proofs.«01_k».proof.Proof.Gen.ReferenceIdeal
public import Idealize.ShloMosaic.Lib.Pointwise.Tactic
public import Idealize.ShloMosaic.Lib.Pointwise.Reshape
public import Idealize.ShloMosaic.Lib.ValueIdxCore

@[expose] public section

noncomputable section

namespace Cert.Proof.Spmm.Reference

open Cert.ReferenceIdeal Cert.ReferenceIdeal.Gen
open Idealize.ShloMosaic

/-! ## The reference's terms -/

/-- The row index of each entry of the sparse matrix, and its column index, wrapped when negative. -/
abbrev rowIdx : IVec S4x1 32 := broadcastInDim S4x1 ![0] bcast_S4_S4x1_0 (fun i => lit0 (S4.rowMajor i))
abbrev colIdx : IVec S4x1 32 :=
  broadcastInDim S4x1 ![0] bcast_S4_S4x1_0 (select (cmpi .slt (fun i => lit1 (S4.rowMajor i)) (broadcastInDim S4 ![] bcast_S_S4 (constantI S_ 32 0#32)))
    (addi (fun i => lit1 (S4.rowMajor i)) (broadcastInDim S4 ![] bcast_S_S4 (constantI S_ 32 4#32))) (fun i => lit1 (S4.rowMajor i)))

/-- Whether each column index lies inside the operand. -/
abbrev inside : IVec S4 1 :=
  Host.reduce IntOp.andi (andi (cmpi .sge colIdx (broadcastInDim S4x1 ![] bcast_S_S4x1 (constantI S_ 32 0#32)))
    (cmpi .sle colIdx (broadcastInDim S4x1 ![0, 1] bcast_S1x1_S4x1_0_1 (broadcastInDim S1x1 ![1] bcast_S1_S1x1_1 (constantI S1 32 3#32)))))
    (constantI S_ 1 1#1) reducesTo_S4x1_S4_d1 h_S_

/-- The operand's rows at the column indices, each scaled by its entry's value. -/
abbrev scaled (x : FVec Ideal S4x2 .f32) : FVec Ideal S4x2 .f32 :=
  mulf (broadcastInDim S4x2 ![0, 1] bcast_S4x1_S4x2_0_1 (broadcastInDim S4x1 ![0] bcast_S4_S4x1_0 (fun i => FloatOps.ofBits .f32 (lit2 (S4.rowMajor i)))))
    (select (broadcastInDim S4x2 ![0] bcast_S4_S4x2_0 inside) (Host.gather gather_S4x2_S4x1_S4x2_1_0_n_n_0_1_12 x colIdx)
      (broadcastInDim S4x2 ![] bcast_S_S4x2 (constant S_ .f32 0x7FC00000#32)))

/-- The sparse product. -/
abbrev product (x : FVec Ideal S4x2 .f32) : FVec Ideal S3x2 .f32 :=
  Host.scatterAdd scatter_S3x2_S4x1_S4x2_1_0_0_1 (broadcastInDim S3x2 ![] bcast_S_S3x2 (constant S_ .f32 0x00000000#32)) rowIdx (scaled x)

/-- The reference's result. -/
abbrev result (x : FVec Ideal S4x2 .f32) (W : FVec Ideal S4x6 .f32) (b : FVec Ideal S4 .f32) : FVec Ideal S4 .f32 :=
  addf (Host.dotGeneral dot_S6_S6x4_S4_0_0_n_1_n_n none (shapeCast _ (product x) shapeCasts_S3x2_S6)
    (transpose S6x4 [1, 0] W transposes_S4x6_S6x4_1_0)) b

/-! ## Read at an index -/

/-- The row, the column and the value of each entry of the sparse matrix. -/
def rowOf : Fin 4 → Fin 3 := ![0, 0, 1, 2]
def colOf : Fin 4 → Fin 4 := ![2, 3, 0, 3]
def valOf (e : Fin 4) : EReal := Ideal.ofBits .f32 (lit2 e)

/-- Every column index lies inside the operand. -/
theorem inside_at : ∀ e : Fin 4, inside (ix1 e) = 1#1 := by decide +kernel

/-- Entry `e` reads the operand's row `colOf e`. -/
theorem gathers_at : ∀ (e : Fin 4) (q : Fin 2), gather_S4x2_S4x1_S4x2_1_0_n_n_0_1_12.operandIdx (ix2 e q) colIdx = ix2 (colOf e) q := by decide +kernel

/-- Entry `e` is added to row `rowOf e` of the product. -/
theorem lands_at : ∀ (e : Fin 4) (q : Fin 2), scatter_S3x2_S4x1_S4x2_1_0_0_1.resultIdx? (ix2 e q) rowIdx = some (ix2 (rowOf e) q) := by decide +kernel

/-- Entry `e` has its value all along the row it scales, as bit patterns. -/
theorem pattern_at : ∀ (e : Fin 4) (q : Fin 2),
    broadcastInDim S4x2 ![0, 1] bcast_S4x1_S4x2_0_1 (broadcastInDim S4x1 ![0] bcast_S4_S4x1_0 (fun i => lit2 (S4.rowMajor i))) (ix2 e q) = lit2 e := by decide +kernel

/-- Product `k` of result `j` takes entry `k` of the flattened product and the weight's entry at `k`, `j` of the transpose. -/
theorem contracts_at : ∀ (j : Fin 4) (k : Fin 6),
    dot_S6_S6x4_S4_0_0_n_1_n_n.lhsIdx (ix1 j) ((ValueIdx.contrEquiv1 dot_S6_S6x4_S4_0_0_n_1_n_n 6 rfl rfl).symm k) = ix1 k
      ∧ dot_S6_S6x4_S4_0_0_n_1_n_n.rhsIdx (ix1 j) ((ValueIdx.contrEquiv1 dot_S6_S6x4_S4_0_0_n_1_n_n 6 rfl rfl).symm k) = ix2 k j := by decide +kernel

/-- A scaled row is the entry's value times the operand's row. -/
theorem scaled_at (x : FVec Ideal S4x2 .f32) (e : Fin 4) (q : Fin 2) : scaled x (ix2 e q) = valOf e * x (ix2 (colOf e) q) := by
  have hm : broadcastInDim S4x2 ![0] bcast_S4_S4x2_0 inside (ix2 e q) = 1#1 := by
    rw [← inside_at e]; simp only [broadcastInDim]; congr 1; exact eq_ix1 _
  have hv : broadcastInDim S4x2 ![0, 1] bcast_S4x1_S4x2_0_1 (broadcastInDim S4x1 ![0] bcast_S4_S4x1_0 (fun i => FloatOps.ofBits (F := Ideal) .f32 (lit2 (S4.rowMajor i)))) (ix2 e q)
      = valOf e := congrArg (Ideal.ofBits .f32) (pattern_at e q)
  have hs : select (broadcastInDim S4x2 ![0] bcast_S4_S4x2_0 inside) (Host.gather gather_S4x2_S4x1_S4x2_1_0_n_n_0_1_12 x colIdx)
      (broadcastInDim S4x2 ![] bcast_S_S4x2 (constant S_ .f32 0x7FC00000#32)) (ix2 e q) = x (ix2 (colOf e) q) := by
    rw [← gathers_at e q]
    exact if_pos hm
  exact congrArg₂ (· * ·) hv hs

/-- The product's entry: what the entries of its row add up to. -/
theorem product_at (x : FVec Ideal S4x2 .f32) (r : Fin 3) (q : Fin 2) :
    product x (ix2 r q) = ∑ e ∈ Finset.univ.filter (fun e => rowOf e = r), valOf e * x (ix2 (colOf e) q) := by
  have h0 : broadcastInDim S3x2 ![] bcast_S_S3x2 (constant (F := Ideal) S_ .f32 0x00000000#32) (ix2 r q) = (0 : EReal) := Ideal.ofBits_zero_f32
  refine (congrArg₂ (· + ·) h0 ?_).trans (zero_add _)
  refine (Finset.sum_nbij' (fun e => ix2 e q) (fun i => i 0) ?_ ?_ ?_ ?_ ?_).symm
  · intro e he
    rw [Finset.mem_filter] at he ⊢
    exact ⟨Finset.mem_univ _, by rw [lands_at, he.2]⟩
  · intro i hi
    have hi := Finset.mem_filter.mp hi
    obtain ⟨e, c, rfl⟩ : ∃ (e : Fin 4) (c : Fin 2), i = ix2 e c := ⟨i 0, i 1, eq_ix2 i⟩
    exact Finset.mem_filter.mpr ⟨Finset.mem_univ _, congrFun (Option.some.inj ((lands_at e c).symm.trans hi.2)) 0⟩
  · exact fun _ _ => rfl
  · intro i hi
    obtain ⟨e, c, rfl⟩ : ∃ (e : Fin 4) (c : Fin 2), i = ix2 e c := ⟨i 0, i 1, eq_ix2 i⟩
    have hc : c = q := congrFun (Option.some.inj ((lands_at e c).symm.trans (Finset.mem_filter.mp hi).2)) 1
    rw [hc]; rfl
  · exact fun e _ => (scaled_at x e q).symm

/-- A result: six products of the flattened sparse product with the weights' row, and the bias. -/
theorem result_at (x : FVec Ideal S4x2 .f32) (W : FVec Ideal S4x6 .f32) (b : FVec Ideal S4 .f32) (j : Fin 4) :
    result x W b (ix1 j) = (∑ k : Fin 6, product x (ix2 (⟨k.val / 2, by omega⟩ : Fin 3) (⟨k.val % 2, by omega⟩ : Fin 2)) * W (ix2 j k)) + b (ix1 j) := by
  refine congrArg (· + b (ix1 j)) ?_
  refine (Ideal.dotGeneral_apply _ _ _ _ _ _).trans ?_
  rw [← Equiv.sum_comp (ValueIdx.contrEquiv1 dot_S6_S6x4_S4_0_0_n_1_n_n 6 rfl rfl).symm]
  refine Finset.sum_congr rfl fun k _ => congrArg₂ (· * ·) ?_ ?_
  · rw [(contracts_at j k).1]
    generalize product x = y
    fin_cases k <;> pointwise
  · rw [(contracts_at j k).2]
    pointwise

end Cert.Proof.Spmm.Reference

end
-- ==== Proof.Equation.lean ====
/-
  The equation: on extended reals the kernel's result is the reference's. The packed operand's words are the arguments'
  elements; the kernel's six written-out entries are the reference's sparse product row by row; and adding the six
  products to the bias in order is their sum plus the bias.
-/
module

public import proofs.«01_k».proof.Proof.KernelValue
public import proofs.«01_k».proof.Proof.ReferenceValue
public import Idealize.ShloMosaic.Lib.Pointwise.Select

@[expose] public section

noncomputable section

namespace Cert.Proof.Spmm

open Cert.KernelIdeal
open Idealize.ShloMosaic

/-! ## The packed operand's words -/

section
variable {F : FTy → Type} [FloatOps F] (x : (⟨S4x2, .f32⟩ : BufTy).Contents (Elt F)) (W : (⟨S4x6, .f32⟩ : BufTy).Contents (Elt F)) (b : Result F)

/-- Words 0 to 7 are `x`, row by row. -/
theorem word_x (r : Fin 4) (c : Fin 2) : word (packedOf x W b) (2 * r.val + c.val) = x (ix2 r c) := by
  unfold word packedOf
  fin_cases r <;> fin_cases c <;> pointwise

/-- Words 8 to 31 are `W`, row by row. -/
theorem word_w (j : Fin 4) (k : Fin 6) : word (packedOf x W b) (8 + 6 * j.val + k.val) = W (ix2 j k) := by
  unfold word packedOf
  fin_cases j <;> fin_cases k <;> pointwise

/-- Words 32 to 35 are `b`. -/
theorem word_b (j : Fin 4) : word (packedOf x W b) (32 + j.val) = b (ix1 j) := by
  unfold word packedOf
  fin_cases j <;> pointwise
end

/-! ## The two sides -/

variable (x : FVec Ideal S4x2 .f32) (W : FVec Ideal S4x6 .f32) (b : FVec Ideal S4 .f32)

/-- The kernel's flattened entries are the reference's sparse product, row by row. -/
theorem flat_eq (k : Fin 6) :
    flatAt (F := Ideal) (packedOf x W b) k = Reference.product x (ix2 (⟨k.val / 2, by omega⟩ : Fin 3) (⟨k.val % 2, by omega⟩ : Fin 2)) := by
  have one : Reference.valOf 0 = 1 := Ideal.ofBits_one_f32
  have one' : Reference.valOf 2 = 1 := Ideal.ofBits_one_f32
  rw [Reference.product_at, Finset.sum_filter, Fin.sum_univ_four, one, one', ← word_x (F := Ideal) x W b, ← word_x (F := Ideal) x W b,
    ← word_x (F := Ideal) x W b, ← word_x (F := Ideal) x W b]
  fin_cases k <;> simp [Reference.rowOf, Reference.colOf] <;> rfl

/-- The kernel's sum for result `j` is the reference's. -/
theorem dot_eq (j : Fin 4) : dotAt (F := Ideal) (packedOf x W b) j = Reference.result x W b (ix1 j) := by
  rw [Reference.result_at, Fin.sum_univ_six]
  simp only [← flat_eq x W b, ← word_w (F := Ideal) x W b, ← word_b (F := Ideal) x W b]
  unfold dotAt term
  pointwise
  ac_rfl

/-- The kernel's result is the reference's. -/
theorem outOf_eq : outOf (F := Ideal) (packedOf x W b) = Reference.result x W b :=
  funext fun i => (dot_eq x W b (i 0)).trans (congrArg (Reference.result x W b) (eq_ix1 i).symm)

end Cert.Proof.Spmm

end
-- ==== Proof.lean ====
/-
  The proof of `Cert.Claim`: the two printed kernel programs' frames and the reference's, and the algebraic claim. The
  kernel's run is Proof/Launch.lean's, written once over any float values; the reference's is the generated one; that
  both results agree on extended reals is Proof/Equation.lean's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The kernel at machine floats terminates without fault, its arguments unchanged and every counter at zero: its program
    is the ideal one's, whose run is over any float values. -/
theorem frame_kernel : Cert.quiescent_Kernel := fun m ρ _ =>
  (θ_run Cert.KernelIdeal.defs _ _).mono (fun _ h => ⟨fun c => (h.1 c).2, h.2⟩) (Spmm.run_main (F := Bits) m ρ)

/-- The same of the kernel on extended reals. -/
theorem frame_kernelIdeal : Cert.quiescent_KernelIdeal := fun m ρ _ =>
  (θ_run Cert.KernelIdeal.defs _ _).mono (fun _ h => ⟨fun c => (h.1 c).2, h.2⟩) (Spmm.run_main (F := Ideal) m ρ)

/-- The reference terminates without fault, its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference end with equal results on extended reals: both with
    `Spmm.outAt` of the kernel's arguments. -/
theorem algebraic : Cert.algebraic_KernelIdeal_ReferenceIdeal := by
  intro m ρ m' ρ' _ hagree
  refine ⟨fun c => Spmm.outAt m c, (θ_run Cert.KernelIdeal.defs _ _).mono (fun _ h => h.1) (Spmm.run_main (F := Ideal) m ρ),
    (θ_run Cert.ReferenceIdeal.defs _ _).mono (fun _ h c => ⟨(h c).1.trans ?_, (h c).2⟩) (Cert.ReferenceIdeal.Value.run (F := Ideal) m' ρ')⟩
  rw [(hagree c).1, (hagree c).2.1, (hagree c).2.2]
  exact (Spmm.outOf_eq _ _ _).symm

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
